-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x1024 : Shape := ⟨3, ![1, 8192, 1024]⟩
abbrev S8192x1024 : Shape := ⟨2, ![8192, 1024]⟩
abbrev S_ : Shape := ⟨0, ![]⟩
abbrev S256x1024 : Shape := ⟨2, ![256, 1024]⟩

abbrev nBuf : Table → Nat
  | .hbm => 4
  | _ => 0

abbrev bufTy : (tb : Table) → Fin (nBuf tb) → BufTy
  | .hbm, ⟨0, _⟩ => ⟨S1x8192x1024, .f32⟩
  | .hbm, ⟨1, _⟩ => ⟨S8192x1024, .f32⟩
  | .hbm, ⟨2, _⟩ => ⟨S8192x1024, .f32⟩
  | .hbm, ⟨3, _⟩ => ⟨S1x8192x1024, .f32⟩
  | _, _ => ⟨S1x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x8192x1024 : Shape := ⟨3, ![1, 8192, 1024]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.KernelIdealRun.lean ====
/-
  The same run for the program of the algebraic claim, with its value. On each of the 2 SparseCores all 16 vector subcores take part; the
  subcore `i` of SparseCore `c` copies one block of 256 rows of `pe`, block `2 * i + c`, straight to the same rows of the call's result
  by one transfer, and waits for it. The 32 blocks fill the array, so after the call the result is `pe`; the host then puts an axis of
  length 1 in front. The last theorem, `run_main`, says so for every weakly fair execution, together with the two arguments unchanged
  and every semaphore counter at zero. It holds in any float model, the kernel moving data only.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (V)
open Idealize.ShloMosaic.SparseCore.Cfg (HIx Pay ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The launch's set-up: the program, its handshakes, its resource algebra -/

abbrev ΛP : Labels := Pipeline.Sig Λ₀ (Fin 0) fun p => (pcfgs (F := F) p).Adm
abbrev K : SparseCore.Cfg τ sig (ΛP (F := F)) 1 := sc (F := F)
/-- The call runs on 2 SparseCores. -/
theorem nCore_zero : (K (F := F)).nCore 0 = 2 := rfl
/-- The call runs on 16 vector subcores of each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and unscoped, and no buffer is shared between the tasks of a SparseCore. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-- On device `d`: the first argument `x`, the table `pe`, the call's result `o` and @main's result `r`. -/
abbrev xLoc (d : Dev nD) : Loc nD τ sig := (SparseCore.T d).loc main_arg0
abbrev peLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- The contents of `pe` at launch. -/
abbrev pe (d : Dev nD) : FVec F S8192x1024 .f32 := m (peLoc d)

-- the two memrefs as the call passes them, closed terms
local notation "peV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)

/-! ## The blocks -/

/-- 32 divides the number of rows, 8192. -/
theorem hdiv : 32 ∣ S8192x1024.size 0 := ⟨256, rfl⟩

/-- The block of subcore `p.2` of SparseCore `p.1`, among 32 blocks of 256 rows. -/
abbrev blk (p : Fin 2 × Fin 16) : Fin 32 := ⟨2 * p.2.val + p.1.val, by omega⟩

/-- The rows of that block. -/
abbrev rows (p : Fin 2 × Fin 16) : Rect S8192x1024 := Rect.part (s := S8192x1024) (a₀ := 0) hdiv (blk p)

/-- Their elements. -/
abbrev els (p : Fin 2 × Fin 16) : Finset S8192x1024.Idx := ((peV).view.slice (rows p)).set

/-- A block's elements are those of its rows. -/
theorem els_eq (p : Fin 2 × Fin 16) : els p = (rows p).set := by
  show ((View.whole (main_arg1_scv : Ref sig .scVector)).slice (rows p)).set = _
  rw [View.set_slice]; exact Finset.map_refl

/-- No two subcores have the same block. -/
theorem blk_injective : Function.Injective blk := by
  rintro ⟨c, i⟩ ⟨c', i'⟩ h
  have h' : 2 * i.val + c.val = 2 * i'.val + c'.val := congrArg Fin.val h
  refine Prod.ext (Fin.ext ?_) (Fin.ext ?_) <;> dsimp only <;> omega

/-- The blocks of two different subcores have no element in common. -/
theorem els_disjoint : ∀ p ∈ (Finset.univ : Finset (Fin 2 × Fin 16)), ∀ q ∈ (Finset.univ : Finset (Fin 2 × Fin 16)), p ≠ q → Disjoint (els p) (els q) :=
  fun p _ q _ h => by rw [els_eq, els_eq]; exact Rect.part_disjoint hdiv fun e => h (blk_injective e)

/-- The blocks of the 32 subcores fill the array. -/
theorem els_cover : (Finset.univ : Finset (Fin 2 × Fin 16)).biUnion els = Finset.univ := by
  refine Finset.eq_univ_of_forall fun x => ?_
  obtain ⟨j, -, hj⟩ := Finset.mem_biUnion.mp ((Rect.biUnion_part (s := S8192x1024) (a₀ := 0) hdiv).symm ▸ Finset.mem_univ x)
  refine Finset.mem_biUnion.mpr ⟨(⟨j.val % 2, by omega⟩, ⟨j.val / 2, by omega⟩), Finset.mem_univ _, ?_⟩
  rw [els_eq]
  have e : blk (⟨j.val % 2, by omega⟩, ⟨j.val / 2, by omega⟩) = j := Fin.ext (by show 2 * (j.val / 2) + j.val % 2 = j.val; omega)
  rw [rows, e]; exact hj

/-- An array whole is its blocks, SparseCore by SparseCore: for `pe` and for `o`, whose elements the blocks divide in the same way. -/
theorem whole_eq_blocks {ℓ : Loc nD τ sig} (E : Fin 2 × Fin 16 → Finset (Idx ℓ))
    (hd : ∀ p ∈ (Finset.univ : Finset (Fin 2 × Fin 16)), ∀ q ∈ (Finset.univ : Finset (Fin 2 × Fin 16)), p ≠ q → Disjoint (E p) (E q))
    (hc : (Finset.univ : Finset (Fin 2 × Fin 16)).biUnion E = Finset.univ) (f : Buf (Elt F) ℓ) :
    (ℓ ↦{fullShare} f : sProp 𝕄) = bigSep Finset.univ fun c : Fin 2 => bigSep Finset.univ fun i : Fin 16 => ℓ ↦[E (c, i)]{fullShare} f := by
  rw [← bigSep_univ_prod fun p : Fin 2 × Fin 16 => (ℓ ↦[E p]{fullShare} f : sProp 𝕄), ← pointsTo_biUnion Finset.univ E hd, hc]

variable [FloatOps F]

/-! ## What the handshakes carry -/

/-- Block `p` of `pe`, at its launch contents. -/
abbrev pePts (d : Dev nD) (p : Fin 2 × Fin 16) : sProp 𝕄 := peLoc d ↦[els p]{fullShare} m (peLoc d)
/-- Block `p` of the call's result, at contents `f`. -/
abbrev oPts (d : Dev nD) (p : Fin 2 × Fin 16) (f : Buf (Elt F) (oLoc d)) : sProp 𝕄 := oLoc d ↦[els p]{fullShare} f
/-- What a subcore is given: its block of `pe` and the same block of the result, the latter at the launch's contents. -/
abbrev given (d : Dev nD) (p : Fin 2 × Fin 16) : sProp 𝕄 := iprop(pePts m d p ∗ oPts d p (m (oLoc d)))
/-- What it hands back: the two blocks, the result's now holding `pe`'s elements. -/
abbrev handed (d : Dev nD) (p : Fin 2 × Fin 16) : sProp 𝕄 := iprop(pePts m d p ∗ oPts d p (pe m d))

/-- The subcore at place `i` of SparseCore `c` in the call, as a pair. -/
abbrev at₀ (c : Fin ((K (F := F)).nCore 0)) (i : Fin ((K (F := F)).nSub 0)) : Fin 2 × Fin 16 := (Fin.cast nCore_zero c, Fin.cast nSub_zero i)

/-- Each SparseCore takes its subcores' blocks and brings them back; no subcore owes anything of its own. -/
def P : (K (F := F)).Pay (nD := nD) (Val := Elt F) (Name := ℕ) (U := UU) where
  st := fun q d c => match q with | 0 => bigSep Finset.univ fun i => given m d (at₀ c i)
  dn := fun q d c => match q with | 0 => bigSep Finset.univ fun i => handed m d (at₀ c i)
  go := fun q d c i => match q with | 0 => given m d (at₀ c i)
  td := fun q d c i => match q with | 0 => handed m d (at₀ c i)
  x := fun _ _ => iprop(emp)

/-- What the handshakes carry can be stored in their invariants. -/
instance P_storable : (P (F := F) m).IsStorable where
  st q d c := match q with
    | 0 => (inferInstance : BI.Storable (upEmb : UEmb _ 𝕄) (bigSep Finset.univ fun i => given m d (at₀ (F := F) c i)))
  dn q d c := match q with
    | 0 => (inferInstance : BI.Storable (upEmb : UEmb _ 𝕄) (bigSep Finset.univ fun i => handed m d (at₀ (F := F) c i)))
  go q d c i := match q with
    | 0 => (inferInstance : BI.Storable (upEmb : UEmb _ 𝕄) (given m d (at₀ (F := F) c i)))
  td q d c i := match q with
    | 0 => (inferInstance : BI.Storable (upEmb : UEmb _ 𝕄) (handed m d (at₀ (F := F) c i)))

/-! ## The task of one vector subcore -/

section Tile

variable (d : Dev nD) (L : grid0.Coords)

abbrev cV (L : grid0.Coords) : Fin τ.nSC := (L 0).castLE hcore0
abbrev jV (L : grid0.Coords) : Fin τ.nSub := (L 1).castLE hsub0
/-- The thread of the subcore at coordinates `L`. -/
abbrev thr (d : Dev nD) (L : grid0.Coords) : Thread nD τ := V d (cV L) (jV L)
/-- Its coordinates as a pair. -/
abbrev pL (L : grid0.Coords) : Fin 2 × Fin 16 := (L 0, L 1)

/-- The rectangle that the body addresses, in the two arrays alike, and the two ends of its transfer. -/
abbrev rowsK (L : grid0.Coords) : Rect S8192x1024 := Rect.unit (s := S8192x1024) (k0_off1 L) S256x1024.size (k0_off1_inb L)
abbrev peK (L : grid0.Coords) : Memref sig .scVector .hbm S256x1024 .f32 := (peV).slice (rowsK L) (fun _ => rfl)
abbrev oK (L : grid0.Coords) : Memref sig .scVector .hbm S256x1024 .f32 := (oV).slice (rowsK L) (fun _ => rfl)

omit [FloatOps F] in
/-- The body's rectangle is the subcore's block: both start at row `512 * i + 256 * c`. -/
theorem rowsK_eq : rowsK L = rows (pL L) := by
  unfold rowsK rows Rect.part Rect.block
  congr 1 <;> funext a
  · rw [k0_off1_eq]
    match a with
    | 0 => show 512 * (L 1).val + 256 * (L 0).val = (2 * (L 1).val + (L 0).val) * 256; ring
    | 1 => simp [Shape.partIx, Shape.partSize]
  · match a with
    | 0 => simp [Shape.partSize]
    | 1 => simp [Shape.partSize]

omit [FloatOps F] in
/-- The transfer's source covers the elements of the subcore's block. -/
theorem set_peK : (peK L).view.set = els (pL L) := by
  show ((peV).view.slice (rowsK L)).set = _
  exact rowsK_eq L ▸ rfl
omit [FloatOps F] in
/-- The transfer's destination covers the elements of the same block. -/
theorem set_oK : (oK L).view.set = els (pL L) := by
  show ((oV).view.slice (rowsK L)).set = ((peV).view.slice (rows (pL L))).set
  exact rowsK_eq L ▸ rfl
omit [FloatOps F] in
/-- The block of `pe` as the body names it is the block as the call hands it over. -/
theorem pts_peK (f : Buf (Elt F) (peLoc d)) :
    ((peK L).view.loc (thr d L) ↦[(peK L).view.set]{fullShare} f : sProp 𝕄) = peLoc d ↦[els (pL L)]{fullShare} f := by
  rw [set_peK]
omit [FloatOps F] in
/-- The block of `o` as the body names it is the block as the call hands it over. -/
theorem pts_oK (f : Buf (Elt F) (oLoc d)) :
    ((oK L).view.loc (thr d L) ↦[(oK L).view.set]{fullShare} f : sProp 𝕄) = oPts d (pL L) f := by
  rw [set_oK]

omit [FloatOps F] in
/-- After a write of `w` through a whole view, the element under index `x` is `w`'s. -/
theorem writes_whole_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = cast (congrArg (Elt F) v.elt_eq.symm) (w x) := by
  have h := congrFun (View.read_writes_whole v f w) x
  rw [View.read_apply] at h
  rw [← h, cast_cast, cast_eq]

omit [FloatOps F] in
/-- What the transfer leaves in the result agrees with `pe` on the block, the two ends being the same rectangle of the two arrays. -/
theorem copied_eq : ∀ i ∈ els (pL L),
    ((oK L).view.writes (Elt F) (m (oLoc d)) [⟨Rect.whole S256x1024, (peK L).view.read (Elt F) (m (peLoc d))⟩] : Buf (Elt F) (oLoc d)) i = pe m d i := by
  intro i hi
  rw [← set_oK] at hi
  obtain ⟨x, -, rfl⟩ := Finset.mem_map.mp hi
  rw [writes_whole_emb, View.read_apply, cast_cast]
  exact cast_eq rfl (pe m d ((peK L).view.emb x))

/-- The one DMA cell the body names. -/
abbrev cell (d : Dev nD) (L : grid0.Coords) : GSem nD τ sig := (thr d L, .dma cc0_scoped0.sem)

omit [FloatOps F] in
/-- The subcore's own cells are that one and the rest, all at zero. -/
theorem ownSems0_V :
    (ownSems0 (thr d L) : sProp 𝕄) = iprop(semVal (cell d L) 0 ∗ bigSep ((ownCells (thr d L)).erase (cell d L)) fun g => semVal g 0) := by
  unfold SparseCore.Cfg.ownSems0
  exact SparseCore.bigSep_erase' ((mem_ownCells (g := cell d L)).mpr ⟨rfl, by
    show (SemLoc.dma cc0_scoped0.sem : SemLoc sig).isScoped .scVector = true; decide⟩)

/-- The task: one transfer of the block and the wait for it, after which the result's block holds `pe`'s elements. -/
theorem tile_body (O : CellTallies nD τ sig (HIx 1)) (W : Waits sig (HIx 1)) (hO : ∀ g, O g none = 0) :
    iprop(levAts (K (F := F)).L (K (F := F)).lev ∗ emp ∗ given m d (pL L) ∗ scopedBufs (thr d L) ∗ scopedSems0 (thr d L) ∗ owes (thr d L) O W)
      ⊢ wp frame (wpE (defs₀ (F := F)) 𝒱₀ (thr d L) none) Set.univ
          (cc0_k L peV (Memref.isWhole_whole _) oV (Memref.isWhole_whole _) cc0_scoped0)
          fun _ => iprop(handed m d (pL L) ∗ scopedBufs (thr d L) ∗ scopedSems0 (thr d L)
            ∗ ∃ W', ⌜∀ p ∈ W', p ∈ W ∨ p.2 = none ∨ p.2 = some (0 : Fin 1)⌝ ∗ owes (thr d L) O W') := by
  rw [SparseCore.Cfg.scopedSems0_V (Val := Elt F) d (cV L) (jV L), ownSems0_V]
  iintro ⟨#Hlv, -, ⟨Hp, Ho⟩, Hbufs, ⟨Hsem, Hsems⟩, HO⟩
  ihave Hmw := (show levAts (K (F := F)).L (K (F := F)).lev ⊢ Transfers.MayWaits (thr d L) (default : HIx 1) O from
    (K (F := F)).mayWaits_none (thr := thr d L) hO) $$ Hlv
  ihave Hp' := (Entails.of_eq (pts_peK (F := F) d L _).symm) $$ Hp
  ihave Ho' := (Entails.of_eq (pts_oK (F := F) d L _).symm) $$ Ho
  sl_unfold [cc0_k]
  sl_exec (disch := exact View.amount_pos _ _ (show 0 < S256x1024.numel by decide))
  sl_step
  isplitl [Hp' Ho']
  · isplitl [Hp']; · iapply (Entails.of_eq (pts_peK (F := F) d L _)); iexact Hp'
    iapply (Entails.of_eq ((pts_oK (F := F) d L _).trans (pointsTo_congr (copied_eq m d L)))); iexact Ho'
  isplitl [Hbufs]; · iexact Hbufs
  isplitl [Hsem Hsems]
  · isplitl [Hsem]; · iexact Hsem
    iexact Hsems
  iexists _; isplitr
  swap; · iexact HO
  ipureintro; intro p _
  rcases p.2 with _ | q
  · exact .inr (.inl rfl)
  · exact .inr (.inr (congrArg some (Subsingleton.elim q 0)))

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- What a vector subcore runs in the call: the kernel's body at its coordinates. -/
theorem defs₀_vector (c : Fin τ.nSC) (s : Fin τ.nSub) :
    defs₀ (F := F) (.scVector c s) 0 ()
      = SparseCore.onTile hcore0 hsub0 (fun c s => cc0_k (coords c s) peV (Memref.isWhole_whole _) oV (Memref.isWhole_whole _) cc0_scoped0) ⟨⟩ c s := rfl

/-- Every subcore of the call meets the launch's obligation on it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coords ⟨_, hci.1⟩ ⟨_, hci.2⟩) O W hO

end Tile

/-- A SparseCore's share of the call is its subcores' shares, before and after. -/
theorem vecSplit : (K (F := F)).VecSplit' (P m) 0 := by
  intro d c
  show (bigSep Finset.univ fun i => given m d (at₀ (F := F) c i)) ⊢ |={Set.univ}=> iprop(
      (bigSep Finset.univ fun i => given m d (at₀ (F := F) c i))
      ∗ ((bigSep Finset.univ fun i => handed m d (at₀ (F := F) c i)) -∗ bigSep Finset.univ fun i => handed m d (at₀ (F := F) c i)))
  iintro H; imodintro
  isplitl [H]; · iexact H
  iintro H; iexact H

/-! ## The launch's resources: those of the handshakes only -/

omit [FloatOps F] in
/-- Nothing, over and over, is nothing. -/
theorem bigSep_emp_eq {I : Type} (s : Finset I) : (bigSep s fun _ => iprop(emp)) = (iprop(emp) : sProp 𝕄) := bigSep_emp_const s

def u₀ : UU := (initOf (K (F := F)).hsCells (K (F := F)).hsToks, 1)

/-- The launch's resources are those of the handshakes; nothing is left over for a device or a thread. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp_eq]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp_eq]
  iempintro

/-! ## @main on the TensorCore: the call, then the new axis -/

abbrev x' : DevRef τ sig := Proc.devRef .tc (main_arg0 : Ref sig .tc)
abbrev pe' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- An array with an axis of length 1 put in front. -/
abbrev inFront (f : FVec F S8192x1024 .f32) : FVec F S1x8192x1024 .f32 :=
  broadcastInDim S1x8192x1024 ![1, 2] bcast_S8192x1024_S1x8192x1024_1_2 f

/-- The host's line after the call. -/
abbrev opFront : HloOp τ sig (Elt F) := StableHlo.unary main_v0 main_v1 (inFront (F := F))

/-- The four arrays. -/
abbrev S4 : Finset (DevRef τ sig) := {x', pe', o', r'}

omit [FloatOps F] in
/-- The four arrays held at a valuation are the four arrays, each at what the valuation gives it. -/
theorem held_S4 (d : Dev nD) (W : Valuation τ sig (Elt F)) :
    (held (SparseCore.T d) S4 W : sProp 𝕄)
      = iprop((xLoc d ↦{fullShare} W x') ∗ (peLoc d ↦{fullShare} W pe') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

/-- The contents at launch, and after the call: `o` holds `pe`. -/
def V0 (d : Dev nD) : Valuation τ sig (Elt F) := fun b => m (d, b)
def V1 (d : Dev nD) : Valuation τ sig (Elt F) := Function.update (V0 m d) o' (pe m d)

omit [FloatOps F] in
/-- The TensorCore's unscoped buffers are the four arrays. -/
theorem unscoped_held (d : Dev nD) : (unscopedBufs d (fun b => m ((SparseCore.T d).loc b)) : sProp 𝕄) = held (SparseCore.T d) S4 (V0 m d) := by
  rw [held_S4]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

omit [FloatOps F] in
/-- After the call `o` holds `pe`'s launch contents. -/
theorem V1_o (d : Dev nD) : V1 m d o' = pe m d := Function.update_self _ _ _
omit [FloatOps F] in
/-- After the call every other array is as at launch. -/
theorem V1_of_ne (d : Dev nD) {b : DevRef τ sig} (h : b ≠ o') : V1 m d b = m (d, b) := Function.update_of_ne h _ _

/-- Past the host's line: `x` and `pe` as at launch, @main's result at `pe` with the axis in front. -/
theorem held_V2 (d : Dev nD) :
    (held (SparseCore.T d) S4 ((opFront (F := F)).result (V1 m d)) : sProp 𝕄)
      ⊢ iprop((xLoc d ↦{fullShare} m (xLoc d)) ∗ (peLoc d ↦{fullShare} m (peLoc d)) ∗ rLoc d ↦{fullShare} inFront (pe m d)) := by
  rw [held_S4,
    (opFront (F := F)).result_of_not_mem (V1 m d) (b := x') (show x' ∉ ({r'} : Finset (DevRef τ sig)) by decide), V1_of_ne m d (show x' ≠ o' by decide),
    (opFront (F := F)).result_of_not_mem (V1 m d) (b := pe') (show pe' ∉ ({r'} : Finset (DevRef τ sig)) by decide), V1_of_ne m d (show pe' ≠ o' by decide),
    show (opFront (F := F)).result (V1 m d) r' = inFront (V1 m d o') from StableHlo.unary_result' _ _ _ _, V1_o]
  iintro ⟨Hx, Hp, -, Hr⟩
  isplitl [Hx]; · iexact Hx
  isplitl [Hp]; · iexact Hp
  iexact Hr

omit [FloatOps F] in
/-- The shares of all subcores, each a block of `pe` and the same block of `o` at contents `f`, are the two arrays whole. -/
theorem shares_eq (d : Dev nD) (f : Buf (Elt F) (oLoc d)) :
    (bigSep Finset.univ fun c : Fin ((K (F := F)).nCore 0) => bigSep Finset.univ fun i : Fin ((K (F := F)).nSub 0) =>
        iprop(pePts m d (at₀ c i) ∗ oPts d (at₀ c i) f))
      = (iprop((peLoc d ↦{fullShare} m (peLoc d)) ∗ oLoc d ↦{fullShare} f) : sProp 𝕄) := by
  rw [whole_eq_blocks (ℓ := peLoc d) els els_disjoint els_cover, whole_eq_blocks (ℓ := oLoc d) els els_disjoint els_cover, ← bigSep_sep']
  refine bigSep_congr fun c _ => ?_
  rw [← bigSep_sep']
  rfl

/-- What the call takes: `pe` and `o` whole. -/
theorem st0_eq (d : Dev nD) :
    (bigSep Finset.univ fun c : Fin ((K (F := F)).nCore 0) => (P m).st 0 d c) = iprop((peLoc d ↦{fullShare} m (peLoc d)) ∗ oLoc d ↦{fullShare} m (oLoc d)) :=
  shares_eq m d _
/-- What the call brings back: both whole, `o` at `pe`'s contents. -/
theorem dn0_eq (d : Dev nD) :
    (bigSep Finset.univ fun c : Fin ((K (F := F)).nCore 0) => (P m).dn 0 d c) = iprop((peLoc d ↦{fullShare} m (peLoc d)) ∗ oLoc d ↦{fullShare} pe m d) :=
  shares_eq m d _

/-- What @main leaves on a device: the arguments as at launch, and the result. -/
abbrev FIN (d : Dev nD) : sProp 𝕄 :=
  iprop((xLoc d ↦{fullShare} m (xLoc d)) ∗ (peLoc d ↦{fullShare} m (peLoc d)) ∗ rLoc d ↦{fullShare} inFront (pe m d))

/-- @main on device `d`'s TensorCore: the call, from `pe` and `o` to the same with `o` at `pe`'s contents; then the host's line. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S4 (F := F) d _)) $$ Hheld
  icases Hh with ⟨Hx, Hp, Ho, Hr⟩
  iapply ((K (F := F)).wp_run (D (F := F)) 𝒱 (EH := EH) (P := P m) κ d 0) $$ [Hst Hx Hp Ho Hb Hr Hts]
  isplitr; · iexact Hctx
  isplitl [Hst]; · iexact Hst
  isplitl [Hp Ho]
  · rw [st0_eq]
    isplitl [Hp]; · iexact Hp
    iexact Ho
  iintro ⟨Hst, Hdn⟩
  ihave Hdn' := (Entails.of_eq (dn0_eq m d)) $$ Hdn
  icases Hdn' with ⟨Hp, Ho⟩
  iapply (wp_hlo_within 𝒱 (SparseCore.T d) none Set.univ (op := opFront) (S := S4)
    (show ({o', r'} : Finset (DevRef τ sig)) ⊆ S4 by decide) (V := V1 m d)) $$ [Hb Hx Hp Ho Hr]
  · isplitl [Hb]; · iexact Hb
    rw [held_S4, V1_o, V1_of_ne m d (show x' ≠ o' by decide), V1_of_ne m d (show pe' ≠ o' by decide), V1_of_ne m d (show r' ≠ o' by decide)]
    isplitl [Hx]; · iexact Hx
    isplitl [Hp]; · iexact Hp
    isplitl [Ho]; · iexact Ho
    iexact Hr
  iintro ⟨Hb, Hheld⟩
  ihave Hh := (held_V2 (F := F) m d) $$ Hheld
  rw [wp_ret]; imodintro; imodintro
  isplitl [Hst]; · iexact Hst
  isplitr [Hb Hts]
  · iexact Hh
  isplitl [Hb] <;> iassumption

/-! ## The program's run -/

/-- On device `d` a memory has the result, and the arguments unchanged. -/
def Good (d : Dev nD) (mem : (ℓ : Loc nD τ sig) → Buf (Elt F) ℓ) : Prop :=
  mem (rLoc d) = inFront (pe m d) ∧ mem (xLoc d) = m (xLoc d) ∧ mem (peLoc d) = m (peLoc d)

omit [FloatOps F] in
/-- An array held whole is what the memory has there. -/
theorem read_whole {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What @main leaves on a device says what the memory has there. -/
theorem hfin (d : Dev nD) (s' : Phys nD τ sig (Elt F)) : iprop(FIN m d ∗ SI s') ⊢ (⌜Good m d s'.mem.mem⌝ : sProp 𝕄) := by
  iintro ⟨⟨Hx, Hp, Hr⟩, HSI⟩
  ihave H := (read_whole (F := F) s') $$ [HSI Hx]
  · isplitl [Hx] <;> iassumption
  icases H with ⟨%hx, HSI⟩
  ihave H := (read_whole (F := F) s') $$ [HSI Hp]
  · isplitl [Hp] <;> iassumption
  icases H with ⟨%hp, HSI⟩
  ihave H := (read_whole (F := F) s') $$ [HSI Hr]
  · isplitl [Hr] <;> iassumption
  icases H with ⟨%hr, -⟩
  ipureintro; exact ⟨hr, hx, hp⟩

/-- Every weakly fair execution of the program ends with @main's result at `pe` with an axis in front, the arguments unchanged, on every
    device, and with every semaphore counter at zero. -/
theorem run_main [∀ e, Nonempty (Elt F e)] : θ_run (Cert.KernelIdeal.defs (F := F)) (Cert.KernelIdeal.threads (F := F)) ⟨m, fun _ => 0, ρ⟩
    fun r => (∀ d : Dev nD, Good m d r.2.mem) ∧ r.2.sem = fun _ => 0 :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Good m d s'.mem.mem) (hfin m) _
    (fun _ h hz => ⟨h, hz⟩)

end Cert.Proof.KernelIdealRun

end
-- ==== Proof.RefValue.lean ====
/-
  The reference's value. The reference looks up the rows of `pe` at the positions 0, 1, …, 8191, which it writes as an iota, with the
  steps of a lookup round it: a negative position has 8192 added, a position outside the table gives a constant in place of the row.
  Every position is in range, so the lookup is `pe` itself with an axis of length 1 in front (`lookup_eq`).
-/
module

public import proofs.«01_k».proof.Proof.Gen.ReferenceIdeal
public import proofs.«01_k».proof.Proof.Gen.ReferenceIdeal.Run
public import Idealize.ShloMosaic.Lib.Affine
public import Idealize.ShloMosaic.Lib.ReduceAll
public import Idealize.ShloMosaic.Lib.ValueIdxCore

@[expose] public section

noncomputable section

namespace Cert.Proof.RefValue

open Cert.ReferenceIdeal Cert.ReferenceIdeal.Gen
open Idealize.ShloMosaic Idealize.ShloMosaic.ValueIdx

variable {F : FTy → Type} [FloatOps F]

/-! ## The positions -/

/-- The positions 0, 1, …, 8191, in one row. -/
abbrev positions : IVec S1x8192 32 := broadcastInDim S1x8192 ![1] bcast_S8192_S1x8192_1 (iotaInDim S8192 32 0)

/-- The row indices that the lookup takes: 8192 added to the negative positions. -/
abbrev rowIx : IVec S1x8192x1 32 :=
  broadcastInDim S1x8192x1 ![0, 1] bcast_S1x8192_S1x8192x1_0_1
    (select (cmpi .slt positions (broadcastInDim S1x8192 ![] bcast_S_S1x8192 (constantI S_ 32 0#32)))
      (addi positions (broadcastInDim S1x8192 ![] bcast_S_S1x8192 (constantI S_ 32 8192#32))) positions)

/-- Which of them name a row of the table. -/
abbrev inTable : IVec S1x8192 1 :=
  Host.reduce IntOp.andi
    (andi (cmpi .sge rowIx (broadcastInDim S1x8192x1 ![] bcast_S_S1x8192x1 (constantI S_ 32 0#32)))
      (cmpi .sle rowIx (broadcastInDim S1x8192x1 ![0, 1, 2] bcast_S1x1x1_S1x8192x1_0_1_2 (broadcastInDim S1x1x1 ![2] bcast_S1_S1x1x1_2 (constantI S1 32 8191#32)))))
    (constantI S_ 1 1#1) reducesTo_S1x8192x1_S1x8192_d2 h_S_

/-- What the reference returns, of the table `f`. -/
abbrev lookup (f : FVec F S8192x1024 .f32) : FVec F S1x8192x1024 .f32 :=
  select (broadcastInDim S1x8192x1024 ![0, 1] bcast_S1x8192_S1x8192x1024_0_1 inTable)
    (Host.gather gather_S8192x1024_S1x8192x1_S1x8192x1024_2_0_n_n_0_2_11024 f rowIx)
    (broadcastInDim S1x8192x1024 ![] bcast_S_S1x8192x1024 (constant S_ .f32 0x7FC00000#32))

/-- A position's word, read as a signed integer, is the position. -/
theorem toInt_position {k : Nat} (hk : k < 8192) : (BitVec.ofNat 32 k).toInt = k := by
  rw [BitVec.toInt_eq_toNat_of_lt] <;> rw [BitVec.toNat_ofNat, Nat.mod_eq_of_lt] <;> omega

/-- No position is negative, so the row index at `y` is the position. -/
theorem rowIx_apply (y : S1x8192x1.Idx) : rowIx y = BitVec.ofNat 32 (y 1).val := by
  have hk : (y 1).val < 8192 := (y 1).isLt
  show Scalar.select (IntOp.cmpi .slt (BitVec.ofNat 32 (y 1).val) 0#32) (BitVec.ofNat 32 (y 1).val + 8192#32) (BitVec.ofNat 32 (y 1).val) = _
  rw [eq_zero_of_ne_one (b := IntOp.cmpi .slt (BitVec.ofNat 32 (y 1).val) 0#32), select_zero]
  rw [IntOp.cmpi_slt, toInt_position hk]
  exact fun h => absurd h (by simp)

/-- Every row index is in the table. -/
theorem inTable_apply (y : S1x8192.Idx) : inTable y = 1#1 := by
  refine Host.reduce_andi_one _ _ _ _ y rfl fun x => ?_
  have hk : (x 1).val < 8192 := (x 1).isLt
  show IntOp.andi (IntOp.cmpi .sge (rowIx x) 0#32) (IntOp.cmpi .sle (rowIx x) 8191#32) = 1#1
  rw [rowIx_apply, IntOp.cmpi_sge.mpr (by rw [toInt_position hk]; simp),
    IntOp.cmpi_sle.mpr (by rw [toInt_position hk, show (8191#32).toInt = 8191 from rfl]; omega)]
  rfl

/-! ## The lookup -/

/-- The lookup's dimension numbers. -/
abbrev dims : GatherDims S8192x1024 S1x8192x1 S1x8192x1024 := gather_S8192x1024_S1x8192x1_S1x8192x1024_2_0_n_n_0_2_11024

/-- On the table's row axis, the index at which the gather reads is the row index's value. -/
theorem dims_row (y : S1x8192x1024.Idx) : dims.start y rowIx 0 = (y 1).val := by
  have hk : (y 1).val < 8192 := (y 1).isLt
  unfold GatherDims.start
  rw [dif_pos (show (0 : Fin 2) ∈ dims.startIndexMap from List.mem_singleton.mpr rfl), rowIx_apply]
  show min (BitVec.ofNat 32 (y 1).val).toInt.toNat (8192 - 1) = _
  rw [toInt_position hk]
  omega

/-- The gather, at an index: the table at the index's row and column. -/
theorem gather_apply (f : FVec F S8192x1024 .f32) (y : S1x8192x1024.Idx) : Host.gather dims f rowIx y = f (ix2 (y 1) (y 2)) := by
  unfold Host.gather
  congr 1
  funext a
  refine Fin.ext ?_
  show dims.start y rowIx a + dims.batchCoord y a + dims.offCoord y a = _
  rw [GatherDims.batchCoord_eq_zero _ _ _ List.not_mem_nil]
  match a with
  | ⟨0, _⟩ =>
    rw [GatherDims.offCoord_eq_zero _ _ _ fun h => ((GatherDims.mem_sKept _ _).mp h).1 (List.mem_singleton.mpr rfl)]
    exact dims_row y
  | ⟨1, _⟩ =>
    have hs : dims.start y rowIx 1 = 0 := dif_neg (by decide)
    show dims.start y rowIx 1 + 0 + dims.offCoord y 1 = (y 2).val
    rw [hs]
    unfold GatherDims.offCoord
    rw [dif_pos ((GatherDims.mem_sKept _ _).mpr ⟨by decide, by decide⟩), Nat.zero_add]
    rfl

/-- The lookup is the table with an axis of length 1 in front, whichever proof `h` of the shapes' fitting names it. -/
theorem lookup_eq (f : FVec F S8192x1024 .f32) (h : S8192x1024.BroadcastsInDim S1x8192x1024 ![1, 2]) :
    lookup f = broadcastInDim S1x8192x1024 ![1, 2] h f := by
  funext y
  rw [lookup, select_apply, gather_apply,
    show broadcastInDim S1x8192x1024 ![0, 1] bcast_S1x8192_S1x8192x1024_0_1 inTable y = 1#1 from inTable_apply _, select_one]
  refine congrArg f (funext fun a => ?_)
  match a with
  | ⟨0, _⟩ => rfl
  | ⟨1, _⟩ => rfl

end Cert.Proof.RefValue

end
-- ==== Proof.lean ====
/-
  The proof of `Cert.Claim`: the frames of the program, of its copy for the algebraic claim and of the reference; the (empty) preservation;
  and the equality of the two results. Each program's run with its value is in a module of its own (Proof/KernelRun.lean,
  Proof/KernelIdealRun.lean, Proof/RefValue.lean); here they are read as the claims state them.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.RefValue
public import Idealize.ShloMosaic.Adequacy
public import Idealize.ShloMosaic.Init

@[expose] public section

noncomputable section

namespace Cert.Proof

open Idealize.ShloMosaic Idealize.SL.Sem

/-- `Cert.quiescent_Kernel`: the program ends with its arguments unchanged and every semaphore counter at zero. -/
theorem frame_kernel : Cert.quiescent_Kernel := fun m ρ _ =>
  (θ_run Cert.Kernel.defs _ _).mono (fun _ h => ⟨fun c => (h.1 c).2, h.2⟩) (KernelRun.run_main (F := Bits) m ρ)

/-- `Cert.quiescent_KernelIdeal`: the same over the extended reals. -/
theorem frame_kernelIdeal : Cert.quiescent_KernelIdeal := fun m ρ _ =>
  (θ_run Cert.KernelIdeal.defs _ _).mono (fun _ h => ⟨fun c => (h.1 c).2, h.2⟩) (KernelIdealRun.run_main (F := Ideal) m ρ)

/-- `Cert.quiescent_ReferenceIdeal`: the reference ends with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: the shared result is the table `pe` with an axis of length 1 in front, which the program
    copies and the reference looks up. -/
theorem algebraic : Cert.algebraic_KernelIdeal_ReferenceIdeal := by
  intro m ρ m' ρ' _ hagree
  refine ⟨fun c => KernelIdealRun.inFront (KernelIdealRun.pe m c),
    (θ_run Cert.KernelIdeal.defs _ _).mono (fun _ h c => h.1 c) (KernelIdealRun.run_main (F := Ideal) m ρ),
    (θ_run Cert.ReferenceIdeal.defs _ _).mono (fun _ h c => ⟨(h c).1.trans ?_, (h c).2⟩) (Cert.ReferenceIdeal.Value.run (F := Ideal) m' ρ')⟩
  rw [(hagree c).2]
  exact RefValue.lookup_eq (F := Ideal) (KernelIdealRun.pe m c) Cert.KernelIdeal.Gen.bcast_S8192x1024_S1x8192x1024_1_2

/-- `Cert.Claim`: all of these. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
